-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000 : Shape := ⟨1, ![100000]⟩
abbrev S8x1x12500 : Shape := ⟨3, ![8, 1, 12500]⟩
abbrev S100000x118 : Shape := ⟨2, ![100000, 118]⟩
abbrev S4x12500x118 : Shape := ⟨3, ![4, 12500, 118]⟩
abbrev S4 : Shape := ⟨1, ![4]⟩
abbrev S12500x118 : Shape := ⟨2, ![12500, 118]⟩
abbrev S1x1x12500 : Shape := ⟨3, ![1, 1, 12500]⟩
abbrev S12500 : Shape := ⟨1, ![12500]⟩
abbrev S12500x1 : Shape := ⟨2, ![12500, 1]⟩
abbrev S1x12500x118 : Shape := ⟨3, ![1, 12500, 118]⟩
abbrev S1 : Shape := ⟨1, ![1]⟩
abbrev S_ : Shape := ⟨0, ![]⟩

abbrev nBuf : Space → Nat
  | .hbm => 3
  | .vmem => 2
  | .smem => 0
  | _ => 0

abbrev bufTy : (tb : Table) → Fin (tcTables nBuf tb) → BufTy
  | .hbm, ⟨0, _⟩ => ⟨S100000, .i32⟩
  | .hbm, ⟨1, _⟩ => ⟨S8x1x12500, .i32⟩
  | .hbm, ⟨2, _⟩ => ⟨S100000x118, .i32⟩
  | .local _ .vmem, ⟨0, _⟩ => ⟨S8x1x12500, .i32⟩
  | .local _ .vmem, ⟨1, _⟩ => ⟨S4x12500x118, .i32⟩
  | _, _ => ⟨S100000, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S8x1x12500 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S100000 : Shape := ⟨1, ![100000]⟩
abbrev S_ : Shape := ⟨0, ![]⟩
abbrev S100000x1 : Shape := ⟨2, ![100000, 1]⟩
abbrev S118 : Shape := ⟨1, ![118]⟩
abbrev S1x118 : Shape := ⟨2, ![1, 118]⟩
abbrev S100000x118 : Shape := ⟨2, ![100000, 118]⟩

abbrev nBuf : Space → Nat
  | .hbm => 11
  | .vmem => 0
  | .smem => 0
  | _ => 0

abbrev bufTy : (tb : Table) → Fin (tcTables nBuf tb) → BufTy
  | .hbm, ⟨0, _⟩ => ⟨S100000, .i32⟩
  | .hbm, ⟨1, _⟩ => ⟨S_, .i32⟩
  | .hbm, ⟨2, _⟩ => ⟨S100000, .i32⟩
  | .hbm, ⟨3, _⟩ => ⟨S100000, .i32⟩
  | .hbm, ⟨4, _⟩ => ⟨S100000x1, .i32⟩
  | .hbm, ⟨5, _⟩ => ⟨S118, .i32⟩
  | .hbm, ⟨6, _⟩ => ⟨S1x118, .i32⟩
  | .hbm, ⟨7, _⟩ => ⟨S100000x118, .i32⟩
  | .hbm, ⟨8, _⟩ => ⟨S100000x118, .i32⟩
  | .hbm, ⟨9, _⟩ => ⟨S100000x118, .i1⟩
  | .hbm, ⟨10, _⟩ => ⟨S100000x118, .i32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Proof.OneHot.lean ====
/-
  The array both programs compute, and what one step of the kernel contributes to it.

  Row `r`, column `k` of the result is one if atom `r` has number `k + 1`, zero otherwise (`hot`). The kernel sees the
  atoms as eight lines of 12500 and makes one block of 12500 rows from each line; `chunk` is the computation it does on
  a line, as it is printed, and `chunk_apply` reads it. `table` is the whole array over the eight lines and
  `chunk_eq_table` says that the block made from line `k` is the rows of `table` that start at `12500 * k`.
-/
module

public import proofs.«01_k».proof.Proof.Gen.KernelIdeal
public import Idealize.ShloMosaic.Lib.Pipeline.Value
public import Idealize.ShloMosaic.Lib.ValueIdxCore

@[expose] public section

noncomputable section

namespace Cert.OneHot

open Cert.KernelIdeal Idealize.ShloMosaic

/-! ## One entry -/

/-- Column `k` of the row of an atom of number `a`: one if `a` is `k + 1`, zero otherwise. -/
def hot (a : BitVec 32) (k : ℕ) : BitVec 32 := if a - 1#32 = BitVec.ofNat 32 k then 1#32 else 0#32

/-- The comparison's bit, extended with zeros, is `hot`. -/
theorem setWidth_cmpi_eq (a : BitVec 32) (k : ℕ) :
    (IntOp.cmpi .eq (IntOp.subi a 1#32) (BitVec.ofNat 32 k)).setWidth 32 = hot a k := by
  unfold IntOp.cmpi IntOp.subi hot
  by_cases h : a - 1#32 = BitVec.ofNat 32 k
  · simp [h]
  · rw [if_neg h, beq_eq_false_iff_ne.mpr h]; rfl

/-! ## One block -/

section Block

variable (hrow : S1x1x12500.ShapeCasts S12500) (hcol : S12500.ShapeCasts S12500x1) (hbc : S12500x1.Broadcasts S12500x118)
  (hio : S12500x118.Iotas .tc 32 [1]) (hw : 1 < 32)

/-- What the kernel computes from one line of atoms: the numbers less one, stood up as a column and spread over the
    columns, compared with the column's own number. -/
def chunk (line : S1x1x12500.Idx → BitVec 32) : IVec S12500x118 32 :=
  extui 32 (cmpi .eq (broadcastTo S12500x118 (shapeCast S12500x1 (subi (shapeCast S12500 line hrow) (broadcast S12500 1#32)) hcol) hbc)
    (iota .tc S12500x118 32 [1] hio)) hw

/-- Entry `j` of the block is `hot` of the line's atom `j 0` at column `j 1`. -/
theorem chunk_apply (line : S1x1x12500.Idx → BitVec 32) (j : S12500x118.Idx) :
    chunk hrow hcol hbc hio hw line j = hot (line (ValueIdx.ix3 0 0 (j 0))) (j 1).val := by
  have hrd : ∀ i : Fin 12500, shapeCast S12500 line hrow (ValueIdx.ix1 i) = line (ValueIdx.ix3 0 0 i) := fun i =>
    shapeCast_apply _ _ _ _ (by rw [Shape.rowMajor_val_one, Shape.rowMajor_val_three]; show (0 * 1 + 0) * 12500 + i.val = i.val; omega)
  have hst : ∀ (v : S12500.Idx → BitVec 32) (i : Fin 12500), shapeCast S12500x1 v hcol (ValueIdx.ix2 i 0) = v (ValueIdx.ix1 i) := fun v i =>
    shapeCast_apply _ _ _ _ (by rw [Shape.rowMajor_val_one, Shape.rowMajor_val_two]; show i.val = i.val * 1 + 0; omega)
  have hsp : ∀ v : S12500x1.Idx → BitVec 32, broadcastTo S12500x118 v hbc j = v (ValueIdx.ix2 (j 0) 0) := fun v =>
    broadcastTo_apply _ _ _ _ fun a => match a with | ⟨0, _⟩ => rfl | ⟨1, _⟩ => rfl
  refine Eq.trans ?_ (setWidth_cmpi_eq (line (ValueIdx.ix3 0 0 (j 0))) (j 1).val)
  exact congrArg₂ (fun a b => (IntOp.cmpi .eq a b).setWidth 32)
    ((hsp _).trans ((hst _ (j 0)).trans (congrArg (IntOp.subi · 1#32) (hrd (j 0))))) (iota_single_apply .tc S12500x118 32 1 hio j)

end Block

/-! ## The whole array -/

/-- The one-hot array of the atoms laid out as eight lines of 12500: row `r` is atom `r % 12500` of line `r / 12500`. -/
def table (x : S8x1x12500.Idx → BitVec 32) : S100000x118.Idx → BitVec 32 := fun y =>
  hot (x (ValueIdx.ix3 ⟨(y 0).val / 12500, by have := (y 0).isLt; simp at this; omega⟩ 0 ⟨(y 0).val % 12500, Nat.mod_lt _ (by decide)⟩)) (y 1).val

/-- The block made from line `k` is the rows of the array from `12500 * k` on: its entry `j` is the array's entry at
    the row `12500 * k + j 0` and the same column. -/
theorem chunk_eq_table (hrow : S1x1x12500.ShapeCasts S12500) (hcol : S12500.ShapeCasts S12500x1)
    (hbc : S12500x1.Broadcasts S12500x118) (hio : S12500x118.Iotas .tc 32 [1]) (hw : 1 < 32)
    (x : S8x1x12500.Idx → BitVec 32) (line : S1x1x12500.Idx → BitVec 32) (k : Fin 8)
    (hline : ∀ i : Fin 12500, line (ValueIdx.ix3 0 0 i) = x (ValueIdx.ix3 k 0 i))
    (j : S12500x118.Idx) (y : S100000x118.Idx) (h0 : (y 0).val = 12500 * k.val + (j 0).val) (h1 : (y 1).val = (j 1).val) :
    chunk hrow hcol hbc hio hw line j = table x y := by
  have hj : (j 0).val < 12500 := (j 0).isLt
  rw [chunk_apply, hline (j 0)]
  unfold table
  rw [h1]
  refine congrArg (fun i => hot (x i) (j 1).val) (funext fun a => ?_)
  match a with
  | ⟨0, _⟩ => exact Fin.ext (by show k.val = (y 0).val / 12500; omega)
  | ⟨1, _⟩ => rfl
  | ⟨2, _⟩ => exact Fin.ext (by show (j 0).val = (y 0).val % 12500; omega)

/-- Over a flat array of atoms laid out as the eight lines, row `r` of the array is the row of atom `r`. -/
theorem table_shapeCast (a : S100000.Idx → BitVec 32) (h : S100000.ShapeCasts S8x1x12500) (y : S100000x118.Idx) :
    table (shapeCast S8x1x12500 a h) y = hot (a (ValueIdx.ix1 (y 0))) (y 1).val := by
  unfold table
  refine congrArg (fun b => hot b (y 1).val) (shapeCast_apply _ _ _ _ ?_)
  rw [Shape.rowMajor_val_one, Shape.rowMajor_val_three]
  show (y 0).val = ((y 0).val / 12500 * 1 + 0) * 12500 + (y 0).val % 12500
  omega

/-! ## Eight blocks tile the array -/

/-- Row `y 0` lies in the block of rows whose number is `(y 0) / 12500`. -/
theorem mem_rows (y : S100000x118.Idx) (o : ℕ) (inb : ∀ a, (![o, 0] : Fin 2 → ℕ) a + S12500x118.size a ≤ S100000x118.size a)
    (h : o = 12500 * ((y 0).val / 12500)) : y ∈ (Rect.unit (s := S100000x118) ![o, 0] S12500x118.size inb).set := by
  have h1 : (y 1).val < 118 := (y 1).isLt
  refine Rect.mem_set_unit.mpr fun a => ?_
  match a with
  | ⟨0, _⟩ => show o ≤ (y 0).val ∧ (y 0).val < o + 12500; omega
  | ⟨1, _⟩ => show 0 ≤ (y 1).val ∧ (y 1).val < 0 + 118; omega

end Cert.OneHot

end
-- ==== Proof.Body.lean ====
/-
  The kernel's body, run once: from the staged atoms and the result array at anything, with its four DMA counters at
  zero, to the result array at the one-hot table of the atoms, the counters at zero again.

  The eight blocks are copied out of four scratch slots, a slot written again only after its copy has been waited for,
  so at each copy's issue the slot's newest store is the block of that step (`read_slot`) and the eight landed blocks
  are eight row ranges of one array (`landed_block`), which they fill (`writes_eq`).
-/
module

public import proofs.«01_k».proof.Proof.OneHot
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Tactic

@[expose] public section

set_option maxRecDepth 16384

noncomputable section

namespace Cert.KernelIdeal.Hand

open Cert.KernelIdeal Cert.KernelIdeal.Gen Cert.OneHot
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four scratch slots. -/
abbrev slots : Memref sig .tc .vmem S4x12500x118 .i32 := Memref.whole cc0_scratch0
/-- The result array. -/
abbrev result : Memref sig .tc .hbm S100000x118 .i32 := Memref.whole main_v1

/-- A memref's buffer, held whole at contents `f`. -/
abbrev held (c : Dev nD) {sp : Space} {S : Shape} {e : EltTy} (M : Memref sig .tc sp S e) (f : Buf (Elt F) (M.view.loc (c : Thread nD τ))) : sProp 𝕄 :=
  M.view.loc (c : Thread nD τ) ↦{fullShare} f

/-! ## What a copy reads and what the copies leave -/

/-- A scratch slot read as a block, just after a block was stored there, is that block. -/
theorem read_slot (f : slots.view.ty.Contents (Elt F)) (r : Rect S4x12500x118) (hr : ∀ a, r.stride a = 1)
    (hq : r.shape.Squeezes S12500x118) (hc : r.shape.ShapeCasts S12500x118) (hc' : S12500x118.ShapeCasts r.shape)
    (b : S12500x118.Idx → Elt F .i32) (v : r.shape.Idx → Elt F .i32) (hv : v = shapeCast r.shape b hc')
    (L : List (View.Piece (Elt F) S4x12500x118 .i32)) :
    ((slots.slice r hr).squeeze S12500x118 hq).view.read (Elt F) (slots.view.writes (Elt F) f (⟨r, v⟩ :: L)) = b := by
  subst hv
  rw [Memref.read_squeeze_slice slots r hr hq hc]
  refine Eq.trans (congrArg (fun v => shapeCast S12500x118 v hc) (funext fun x => ?_)) (shapeCast_shapeCast b hc' hc)
  exact View.read_writes_cons_emb slots.view f r _ L x

/-- Writes to the result that all agree with one array and together reach every entry leave that array. -/
theorem writes_eq (o : result.view.ty.Contents (Elt F)) (G : S100000x118.Idx → Elt F .i32)
    (L : List (View.Piece (Elt F) S100000x118 .i32)) (hG : ∀ p ∈ L, ∀ x : p.1.shape.Idx, p.2 x = G (p.1.emb x))
    (hc : ∀ y : S100000x118.Idx, ∃ p ∈ L, y ∈ p.1.set) : result.view.writes (Elt F) o L = G :=
  funext fun y => View.read_writes_apply_of_pieces result.view o G L hG y (hc y)

/-- A block made from line `k` of the staged atoms is, entry by entry, the table's rows from row `12500 * k` on. -/
theorem landed_block (arg0 : Memref sig .tc .vmem S8x1x12500 .i32) (f0 : arg0.view.ty.Contents (Elt F))
    (k : ℕ) (hk : k < 8) (o : ℕ) (ho : o = 12500 * k)
    (inb : ∀ a, (![o, 0] : Fin 2 → ℕ) a + S12500x118.size a ≤ S100000x118.size a)
    (inbL : ∀ a, (![k, 0, 0] : Fin 3 → ℕ) a + S1x1x12500.size a ≤ S8x1x12500.size a)
    (b : S12500x118.Idx → Elt F .i32)
    (hb : b = chunk shapeCasts_S1x1x12500_S12500 shapeCasts_S12500_S12500x1 broadcasts_S12500x1_S12500x118
          iota_S12500x118_d1_w32 natLt_1_32
          (arg0.view.readAt (Elt F) (Rect.unit (s := S8x1x12500) ![k, 0, 0] S1x1x12500.size inbL).toLoadRect f0))
    (L : List (View.Piece (Elt F) S100000x118 .i32))
    (hL : ∀ p ∈ L, ∀ x : p.1.shape.Idx, p.2 x = table (arg0.view.read (Elt F) f0) (p.1.emb x)) :
    ∀ p ∈ (⟨Rect.unit (s := S100000x118) ![o, 0] S12500x118.size inb, b⟩ :: L : List (View.Piece (Elt F) S100000x118 .i32)),
      ∀ x : p.1.shape.Idx, p.2 x = table (arg0.view.read (Elt F) f0) (p.1.emb x) := by
  subst hb
  have h : ∀ x : S12500x118.Idx, chunk shapeCasts_S1x1x12500_S12500 shapeCasts_S12500_S12500x1
      broadcasts_S12500x1_S12500x118 iota_S12500x118_d1_w32 natLt_1_32
      (arg0.view.readAt (Elt F) (Rect.unit (s := S8x1x12500) ![k, 0, 0] S1x1x12500.size inbL).toLoadRect f0) x
      = table (arg0.view.read (Elt F) f0) ((Rect.unit (s := S100000x118) ![o, 0] S12500x118.size inb).emb x) := fun x => by
    refine chunk_eq_table _ _ _ _ _ _ _ ⟨k, hk⟩ (fun i => ?_) x _ ?_ ?_
    · refine congrArg (fun z => arg0.view.read (Elt F) f0 z) (funext fun a => Fin.ext ?_)
      match a with
      | ⟨0, _⟩ => show k + 1 * 0 = k; omega
      | ⟨1, _⟩ => rfl
      | ⟨2, _⟩ => show 0 + 1 * i.val = i.val; omega
    · show o + 1 * (x 0).val = 12500 * k + (x 0).val; omega
    · show 0 + 1 * (x 1).val = (x 1).val; omega
  exact List.forall_mem_cons.mpr ⟨h, hL⟩

/-- An entry of the result lies in a block of rows, or else in one of the other pieces. -/
theorem reached (y : S100000x118.Idx) (o : ℕ) (inb : ∀ a, (![o, 0] : Fin 2 → ℕ) a + S12500x118.size a ≤ S100000x118.size a)
    (b : S12500x118.Idx → Elt F .i32) (L : List (View.Piece (Elt F) S100000x118 .i32))
    (hL : o ≠ 12500 * ((y 0).val / 12500) → ∃ p ∈ L, y ∈ p.1.set) :
    ∃ p ∈ (⟨Rect.unit (s := S100000x118) ![o, 0] S12500x118.size inb, b⟩ :: L : List (View.Piece (Elt F) S100000x118 .i32)), y ∈ p.1.set := by
  by_cases h : o = 12500 * ((y 0).val / 12500)
  · exact ⟨_, List.mem_cons_self, mem_rows y o inb h⟩
  · obtain ⟨p, hp, hy⟩ := hL h
    exact ⟨p, List.mem_cons_of_mem _ hp, hy⟩

/-! ## The run -/

set_option sl_exec.dmaWindow true in
set_option maxHeartbeats 200000 in
/-- The body's run: the result array, at anything before, ends at the table of the staged atoms; everything else is
    handed back, the four counters at zero. -/
theorem body_run (c : Dev nD) (arg0 : Memref sig .tc .vmem S8x1x12500 .i32) (harg0 : arg0.IsWhole)
    (x : S8x1x12500.Idx → Elt F .i32) (o : Buf (Elt F) (result.view.loc (c : Thread nD τ))) (W : Waits sig Unit) (K : PUnit → sProp 𝕄) :
    iprop(owns (c : Thread nD τ) arg0 fullShare x
        ∗ (∃ f, held c slots f) ∗ held c result o
        ∗ semVal ((c : Thread nD τ), SemLoc.dma 1) 0 ∗ semVal ((c : Thread nD τ), SemLoc.dma 2) 0
        ∗ semVal ((c : Thread nD τ), SemLoc.dma 3) 0 ∗ semVal ((c : Thread nD τ), SemLoc.dma 4) 0
        ∗ owes (c : Thread nD τ) 0 W
        ∗ (iprop(owns (c : Thread nD τ) arg0 fullShare x
            ∗ (∃ f, held c slots f) ∗ held c result (table x)
            ∗ semVal ((c : Thread nD τ), SemLoc.dma 1) 0 ∗ semVal ((c : Thread nD τ), SemLoc.dma 2) 0
            ∗ semVal ((c : Thread nD τ), SemLoc.dma 3) 0 ∗ semVal ((c : Thread nD τ), SemLoc.dma 4) 0
            ∗ (∃ W', owes (c : Thread nD τ) 0 W')) -∗ K ⟨⟩))
      ⊢ wp frame (wpE (defs₀ (F := F)) Variants.none c none) Set.univ
          (cc0__onehot_kernel arg0 harg0 result (Memref.isWhole_whole _) slots (Memref.isWhole_whole _) cc0_scratch1) K := by
  simp only [cc0__onehot_kernel_eq_skeleton]; unfold cc0__onehot_kernel_skel
  unfold owns
  iintro ⟨⟨%f0, %h0, H0⟩, ⟨%fs, HS⟩, HO, Hq1, Hq2, Hq3, Hq4, HW, Hk⟩
  sl_exec
  sl_step
  subst h0
  rw [writes_eq o (table (arg0.view.read (Elt F) f0)) _ ?values ?cover]
  · iapply Hk
    isplitl [H0]; · iexists f0; isplitr; · ipureintro; rfl
                    iexact H0
    isplitl [HS]; · iexists _; iexact HS
    isplitl [HO]; · iexact HO
    isplitl [Hq1]; · iexact Hq1
    isplitl [Hq2]; · iexact Hq2
    isplitl [Hq3]; · iexact Hq3
    isplitl [Hq4]; · iexact Hq4
    iexists _; iexact HW
  case values =>
    have hc : S1x12500x118.ShapeCasts S12500x118 := by decide
    have hc' := shapeCasts_S12500x118_S1x12500x118
    -- block by block, the newest first: the copy of block `k` read the slot just filled from line `k`
    refine landed_block arg0 f0 7 (by norm_num) 87500 (by norm_num) inb_S100000x118_S12500x118_87500_0 inb_S8x1x12500_S1x1x12500_7_0_0 _
      (read_slot fs _ _ _ hc hc' _ _ rfl _) _ ?_
    refine landed_block arg0 f0 6 (by norm_num) 75000 (by norm_num) inb_S100000x118_S12500x118_75000_0 inb_S8x1x12500_S1x1x12500_6_0_0 _
      (read_slot fs _ _ _ hc hc' _ _ rfl _) _ ?_
    refine landed_block arg0 f0 5 (by norm_num) 62500 (by norm_num) inb_S100000x118_S12500x118_62500_0 inb_S8x1x12500_S1x1x12500_5_0_0 _
      (read_slot fs _ _ _ hc hc' _ _ rfl _) _ ?_
    refine landed_block arg0 f0 4 (by norm_num) 50000 (by norm_num) inb_S100000x118_S12500x118_50000_0 inb_S8x1x12500_S1x1x12500_4_0_0 _
      (read_slot fs _ _ _ hc hc' _ _ rfl _) _ ?_
    refine landed_block arg0 f0 3 (by norm_num) 37500 (by norm_num) inb_S100000x118_S12500x118_37500_0 inb_S8x1x12500_S1x1x12500_3_0_0 _
      (read_slot fs _ _ _ hc hc' _ _ rfl _) _ ?_
    refine landed_block arg0 f0 2 (by norm_num) 25000 (by norm_num) inb_S100000x118_S12500x118_25000_0 inb_S8x1x12500_S1x1x12500_2_0_0 _
      (read_slot fs _ _ _ hc hc' _ _ rfl _) _ ?_
    refine landed_block arg0 f0 1 (by norm_num) 12500 (by norm_num) inb_S100000x118_S12500x118_12500_0 inb_S8x1x12500_S1x1x12500_1_0_0 _
      (read_slot fs _ _ _ hc hc' _ _ rfl _) _ ?_
    refine landed_block arg0 f0 0 (by norm_num) 0 (by norm_num) inb_S100000x118_S12500x118_0_0 inb_S8x1x12500_S1x1x12500_0_0_0 _
      (read_slot fs _ _ _ hc hc' _ _ rfl _) _ ?_
    exact List.forall_mem_nil _
  case cover =>
    intro y
    have hy : (y 0).val < 100000 := (y 0).isLt
    refine reached y 87500 _ _ _ fun h7 => ?_
    refine reached y 75000 _ _ _ fun h6 => ?_
    refine reached y 62500 _ _ _ fun h5 => ?_
    refine reached y 50000 _ _ _ fun h4 => ?_
    refine reached y 37500 _ _ _ fun h3 => ?_
    refine reached y 25000 _ _ _ fun h2 => ?_
    refine reached y 12500 _ _ _ fun h1 => ?_
    refine reached y 0 _ _ _ fun h0 => ?_
    omega

end Cert.KernelIdeal.Hand

end
-- ==== Proof.Launch.lean ====
/-
  The launch: @main lays the atoms out as eight lines, stages them in VMEM and calls the kernel once, which leaves the
  result in HBM itself. From the body's run (`Body.lean`): the whole program terminates without a fault, the argument
  is as it was, every semaphore counter ends at zero, and the result array is the one-hot table of the lines
  (`run_main`), that is, row by row, of the atoms (`result_eq`, `run_value`).
-/
module

public import proofs.«01_k».proof.Proof.Body

@[expose] public section

set_option maxRecDepth 16384

noncomputable section

namespace Cert.KernelIdeal.Hand

open Cert.KernelIdeal Cert.KernelIdeal.Gen Cert.OneHot
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body holds besides its window -/

/-- @main up to the kernel's call, in the resources the body's own copies need. -/
theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- The body's four DMA cells, one per scratch slot. -/
abbrev osem0 : Fin 4 → SemLoc sig := fun j => (![SemLoc.dma 1, SemLoc.dma 2, SemLoc.dma 3, SemLoc.dma 4] : Fin 4 → SemLoc sig) j
/-- They are scoped cells of the kernel, distinct, and none of them is the staging's. -/
theorem ownSemFacts0 : Pipeline.OwnSemFacts spec0 osem0 := by decide
/-- The four counters at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0
          ∗ semVal ((c : Thread nD τ), SemLoc.dma 3) 0 ∗ semVal ((c : Thread nD τ), SemLoc.dma 4) 0) := by
  rw [Pipeline.ownSems0_eq_of_list c osem0 [0, 1, 2, 3] (by decide) (by decide)]; rfl

/-- The body reads no HBM array itself. -/
def H0 : Finset (Ref sig .tc) := ∅
/-- Those it reads, none, are buffers no window stages. -/
theorem H0_sub : H0 ⊆ Pipeline.restRefs sig spec0 := by decide
/-- The body writes one HBM array itself: the result. -/
def R0 : Finset (Ref sig .tc) := {main_v1}
/-- It is a buffer no window stages. -/
theorem R0_sub : R0 ⊆ Pipeline.restRefs sig spec0 \ H0 := by decide

/-- What the launch leaves in the buffers: the result at the table of the eight lines, the others as the call finds them. -/
def G (c : Dev nD) : (b : Ref sig .tc) → Buf (Elt F) ((c : Thread nD τ).loc b) :=
  Function.update (V m c) main_v1 (table (V m c main_v0))

/-- The result's entry of `G`. -/
theorem G_result (c : Dev nD) : G m c main_v1 = table (V m c main_v0) := Function.update_self ..

/-- The result array at given contents, as the body holds it. -/
theorem routed0_eq (c : Dev nD) (A : (b : Ref sig .tc) → Buf (Elt F) ((c : Thread nD τ).loc b)) :
    (Pipeline.routed R0 c A : sProp 𝕄) = held c result (A main_v1) := by
  unfold Pipeline.routed; rw [BI.bigSep_eq_bigSepL_of_eq [main_v1] (by decide) (by decide)]; rfl

/-- What the body holds besides its window and the wait record, the result at `A`: the scratch slots, the generator's
    register, the four counters at zero, and the result array. -/
theorem PhiD_eq (c : Dev nD) (A : (c : Dev nD) → (b : Ref sig .tc) → Buf (Elt F) ((c : Thread nD τ).loc b)) :
    (Pipeline.ΦDRG osem0 spec0 H0 R0 (V m) A c : sProp 𝕄)
      = iprop((∃ f, held c slots f) ∗ (∃ r, prngReg c r)
          ∗ iprop(semVal ((c : Thread nD τ), SemLoc.dma 1) 0 ∗ semVal ((c : Thread nD τ), SemLoc.dma 2) 0
              ∗ semVal ((c : Thread nD τ), SemLoc.dma 3) 0 ∗ semVal ((c : Thread nD τ), SemLoc.dma 4) 0)
          ∗ iprop(emp) ∗ held c result (A c main_v1)) := by
  rw [Pipeline.ΦDRG_eq, scopedRest0_eq, ownSems00_eq, routed0_eq, show H0 = (∅ : Finset (Ref sig .tc)) from rfl, bigSep_empty]; rfl

/-! ## The pipeline's data and its one step -/

/-- The proof data of the one pipeline: the arrays as the call finds them, the lines left in place by the body, and the
    result held at its contents before the one step and at the table after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ k := Pipeline.ΦDRG osem0 spec0 H0 R0 (V m) (if k.val = 0 then V m else G m) c
  q _ := fullShare
  owed _ := 0

/-- The window's array is what the call finds there. -/
theorem A_eq (c : Dev nD) (w : Fin cfg0.W) : (dats m 0 c).A w = V m c (Pipeline.arrRef spec0 w) := by
  dsimp only [dats]
/-- The body leaves the lines in its window. -/
theorem after0_0 (c : Dev nD) (t : Fin cfg0.N) : (dats m 0 c).after 0 t = iblk m c 0 t := by dsimp only [dats]

/-- The staged lines are what the body finds in its window. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- The window is the whole array of lines. -/
theorem iblk_eq (c : Dev nD) (t : Fin cfg0.N) : iblk m c 0 t = V m c main_v0 := by
  obtain rfl := fin_N0 t
  unfold iblk
  funext y
  refine congrArg (V m c main_v0) (funext fun a => Fin.ext ?_)
  match a with
  | ⟨0, _⟩ => show 0 * 8 + 1 * (y 0).val = (y 0).val; omega
  | ⟨1, _⟩ => show 0 * 1 + 1 * (y 1).val = (y 1).val; omega
  | ⟨2, _⟩ => show 0 * 12500 + 1 * (y 2).val = (y 2).val; omega

/-- Before the step the result is at its old contents. -/
theorem Phi_before (c : Dev nD) (t : Fin cfg0.N) :
    (dats m 0 c).Φ t.castSucc = Pipeline.ΦDRG osem0 spec0 H0 R0 (V m) (V m) c := by
  obtain rfl := fin_N0 t; rfl
/-- After the step the result is at the table. -/
theorem Phi_after (c : Dev nD) (t : Fin cfg0.N) :
    (dats m 0 c).Φ t.succ = Pipeline.ΦDRG osem0 spec0 H0 R0 (V m) (G m) c := by
  obtain rfl := fin_N0 t; rfl

/-- What the step's body is given. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)))
/-- What the step's body gives back. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t))

/-- The step: the body's run, on the staged lines. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_before, Phi_after, PhiD_eq, PhiD_eq, after0_0, G_result, ← iblk_eq m c t]
  simp only [before0_0]
  unfold Dat.owesAt Pipeline.owesWithin
  rw [show (dats m 0 c).owed t.castSucc = 0 from rfl, show (dats m 0 c).owed t.succ = 0 from rfl]
  iintro ⟨⟨HS, Hg, ⟨Hq1, Hq2, Hq3, Hq4⟩, He, HO⟩, ⟨%W, -, HW⟩, ⟨%d0, H0⟩⟩
  iapply (body_run c _ _ (iblk m c 0 t) (V m c main_v1) W _)
  isplitl [H0]; · iexact H0
  isplitl [HS]; · iexact HS
  isplitl [HO]; · iexact HO
  isplitl [Hq1]; · iexact Hq1
  isplitl [Hq2]; · iexact Hq2
  isplitl [Hq3]; · iexact Hq3
  isplitl [Hq4]; · iexact Hq4
  isplitl [HW]; · iexact HW
  iintro ⟨H0, HS, HO, Hq1, Hq2, Hq3, Hq4, ⟨%W', HW'⟩⟩
  isplitl [HS Hg Hq1 Hq2 Hq3 Hq4 He HO]
  · isplitl [HS]; · iexact HS
    isplitl [Hg]; · iexact Hg
    isplitl [Hq1 Hq2 Hq3 Hq4]
    · isplitl [Hq1]; · iexact Hq1
      isplitl [Hq2]; · iexact Hq2
      isplitl [Hq3]; · iexact Hq3
      iexact Hq4
    isplitl [He]; · iexact He
    iexact HO
  isplitl [HW']
  · iexists W'; isplitr; · ipureintro; exact fun _ _ => Or.inl trivial
    iexact HW'
  iexact H0

/-- The table of bodies at the kernel's label is the kernel's body. -/
theorem defs₀_row (t : Fin cfg0.N) :
    defs₀ (F := F) .tc cfg0.body (cfg0.bodyArgs t (cfg0.slots t)) = bodyAt0 t := by
  unfold defs₀; rw [Defs.onTc_tc]

/-- The step, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The whole program -/

set_option backward.isDefEq.respectTransparency.types false in
/-- The run: every core ends with the result at the table of its lines, everything else unscoped as the call found it,
    and every semaphore counter at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m) (hA := A_eq m) (G := G m)
    (hin := fun _ => .rfl) (hout := fun _ => .rfl)

/-- The kernel's result on core `c`, from the atoms it was given. -/
def res (c : Dev nD) : S100000x118.Idx → BitVec 32 := fun y =>
  hot ((m ((c : Thread nD τ).loc main_arg0) : S100000.Idx → BitVec 32) (ValueIdx.ix1 (y 0))) (y 1).val

/-- The table of the eight lines is that result: the lines are the atoms, laid out in order. -/
theorem result_eq (c : Dev nD) : G m c main_v1 = res m c := by
  rw [G_result]
  have h : V m c main_v0 = shapeCast S8x1x12500 (m ((c : Thread nD τ).loc main_arg0) : S100000.Idx → BitVec 32) shapeCasts_S100000_S8x1x12500 := by
    show StableHlo.after hostOps0 _ (Proc.devRef .tc main_v0) = _
    after_results
    rfl
  rw [h]
  exact funext fun y => table_shapeCast _ _ y

/-- The program's whole claim, at any reading of floats: it terminates without a fault, the argument array is as it was,
    the result array is the one-hot encoding of the atoms, and every semaphore counter ends at zero. -/
theorem run_value : θ_run defs (onTc (τ := τ) (main (F := F))) ⟨m, fun _ => 0, ρ⟩ (fun r => (∀ c : Dev nD,
      r.2.mem ((c.tc : Thread nD τ).loc main_v1) = res m c
      ∧ r.2.mem ((c.tc : Thread nD τ).loc main_arg0) = m ((c.tc : Thread nD τ).loc main_arg0))
      ∧ r.2.sem = fun _ => 0) :=
  (θ_run defs _ _).mono (fun _ h => ⟨fun c => ⟨(h.1.written c (Finset.mem_singleton_self _)).trans (result_eq m c),
    ((h.1.toR c).2 main_arg0 (Finset.mem_sdiff.mpr ⟨Pipeline.mem_restRefs_of main_arg0 (by decide) (by decide), by decide⟩)).trans (V_main_arg0 m c)⟩, h.2⟩)
    (run_main m ρ)

/-- Of that, what is said of the argument and the counters alone. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).2, h.2⟩) (run_value m ρ)

end Cert.KernelIdeal.Hand

end
-- ==== Proof.Twin.lean ====
/-
  The kernel as printed and the kernel as read over the extended reals are one program text, printed twice: what is
  proved of the second at every reading of floats holds of the first. All but their tables of bodies are one
  definition unfolded twice; the tables agree label by label.
-/
module

public import proofs.«01_k».proof.Proof.Launch
public import proofs.«01_k».proof.Proof.Gen.Kernel

@[expose] public section

set_option maxRecDepth 16384

noncomputable section

namespace Cert.Kernel.Hand

open Cert.Kernel Cert.Kernel.Gen
open Idealize.ShloMosaic Idealize.SL.Sem

variable {F : FTy → Type} [FloatOps F]

/-- The two tables of kernel bodies agree. -/
theorem defs₀_eq : (defs₀ : Defs nD τ sig (Elt F) Λ₀) = Cert.KernelIdeal.defs₀ := by
  unfold defs₀ Cert.KernelIdeal.defs₀
  refine congrArg Defs.onTc (funext fun ℓ => funext fun x => ?_)
  match ℓ, x with
  | ⟨0, _⟩, (t, s) => rfl
  | ⟨_ + 1, h⟩, _ => exact absurd h (Nat.not_lt.2 (Nat.le_add_left _ _))

/-- So do the programs' whole tables. -/
theorem defs_eq : (defs : Defs nD τ sig (Elt F) (Pipeline.Sig Λ₀ (Fin 1) fun p => (pcfgs (F := F) p).Adm)) = Cert.KernelIdeal.defs :=
  congrArg (Pipeline.defs pcfgs) defs₀_eq

/-- The kernel as printed terminates without a fault, its argument as it was and every semaphore counter at zero. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) := by
  rw [defs_eq]
  exact Cert.KernelIdeal.Hand.run_frame m ρ

end Cert.Kernel.Hand

end
-- ==== Proof.Reference.lean ====
/-
  What the reference computes: its result, the comparison of the atoms less one, spread over the columns, with the
  columns' numbers, is at row `r` and column `k` one if atom `r` has number `k + 1` and zero otherwise.
-/
module

public import proofs.«01_k».proof.Proof.OneHot
public import proofs.«01_k».proof.Proof.Gen.ReferenceIdeal

@[expose] public section

noncomputable section

namespace Cert.ReferenceIdeal.Hand

open Cert.ReferenceIdeal Cert.ReferenceIdeal.Gen Idealize.ShloMosaic
open Cert.OneHot (hot setWidth_cmpi_eq)

/-- The atoms, stood up as a column and spread over the columns: entry `y` is the atom of its row. -/
theorem spread_rows (v : S100000.Idx → BitVec 32) (y : S100000x118.Idx) :
    broadcastInDim S100000x118 ![0, 1] bcast_S100000x1_S100000x118_0_1 (broadcastInDim S100000x1 ![0] bcast_S100000_S100000x1_0 v) y
      = v (ValueIdx.ix1 (y 0)) :=
  (broadcastInDim_apply _ _ _ _ (ValueIdx.ix2 (y 0) 0 : S100000x1.Idx) fun a => match a with | ⟨0, _⟩ => rfl | ⟨1, _⟩ => rfl).trans
    (broadcastInDim_apply _ _ _ _ _ fun a => match a with | ⟨0, _⟩ => rfl)

/-- The columns' numbers, laid down as a row and spread over the rows: entry `y` is the number of its column. -/
theorem spread_cols (v : S118.Idx → BitVec 32) (y : S100000x118.Idx) :
    broadcastInDim S100000x118 ![0, 1] bcast_S1x118_S100000x118_0_1 (broadcastInDim S1x118 ![1] bcast_S118_S1x118_1 v) y
      = v (ValueIdx.ix1 (y 1)) :=
  (broadcastInDim_apply _ _ _ _ (ValueIdx.ix2 0 (y 1) : S1x118.Idx) fun a => match a with | ⟨0, _⟩ => rfl | ⟨1, _⟩ => rfl).trans
    (broadcastInDim_apply _ _ _ _ _ fun a => match a with | ⟨0, _⟩ => rfl)

/-- The reference's result, entry by entry. -/
theorem result_apply (a : S100000.Idx → BitVec 32) (y : S100000x118.Idx) :
    extui 32 (cmpi .eq
      (broadcastInDim S100000x118 ![0, 1] bcast_S100000x1_S100000x118_0_1 (broadcastInDim S100000x1 ![0] bcast_S100000_S100000x1_0
        (subi a (broadcastInDim S100000 ![] bcast_S_S100000 (constantI S_ 32 1#32)))))
      (broadcastInDim S100000x118 ![0, 1] bcast_S1x118_S100000x118_0_1 (broadcastInDim S1x118 ![1] bcast_S118_S1x118_1 (iotaInDim S118 32 0))))
      natLt_1_32 y = hot (a (ValueIdx.ix1 (y 0))) (y 1).val :=
  (congrArg₂ (fun u v => (IntOp.cmpi .eq u v).setWidth 32) (spread_rows _ y) (spread_cols _ y)).trans (setWidth_cmpi_eq _ _)

end Cert.ReferenceIdeal.Hand

end
-- ==== Proof.lean ====
/-
  The certificate's claims, assembled: the kernel's run (Proof/Launch.lean), read again for the kernel as printed
  (Proof/Twin.lean), and the reference's run with its result read entry by entry (Proof/Reference.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Twin
public import proofs.«01_k».proof.Proof.Reference

@[expose] public section

noncomputable section

namespace Cert.Proof

open Idealize.ShloMosaic Idealize.SL.Sem

/-- The kernel as printed: it terminates without a fault, its argument is as it was, every counter ends at zero. -/
theorem kernel_frame : Cert.quiescent_Kernel := fun m g _ =>
  Cert.Kernel.Hand.run_frame m g

/-- The same of the kernel read over the extended reals. -/
theorem kernelIdeal_frame : Cert.quiescent_KernelIdeal := fun m g _ =>
  Cert.KernelIdeal.Hand.run_frame (F := Ideal) m g

/-- The same of the reference, which has no semaphore. -/
theorem reference_frame : Cert.quiescent_ReferenceIdeal := fun m g _ =>
  (θ_run _ _ _).mono (fun r h => ⟨fun c => (h c).2, sem_eq_zero_of_no_sems (by decide) r.2⟩)
    (Cert.ReferenceIdeal.Value.run m g)

/-- The kernel and the reference end with equal results: both are the one-hot encoding of the atoms. -/
theorem equal : Cert.algebraic_KernelIdeal_ReferenceIdeal := fun m g m' g' _ hargs => by
  refine ⟨fun c => Cert.KernelIdeal.Hand.res m c,
    (θ_run _ _ _).mono (fun _ h => h.1) (Cert.KernelIdeal.Hand.run_value m g),
    (θ_run _ _ _).mono (fun _ h c => ⟨(h c).1.trans (funext fun y => ?_), (h c).2⟩) (Cert.ReferenceIdeal.Value.run m' g')⟩
  rw [hargs c]
  exact Cert.ReferenceIdeal.Hand.result_apply _ y

/-- Everything the certificate claims. -/
theorem claim : Cert.Claim :=
  ⟨Cert.Kernel.Gen.facts, Cert.KernelIdeal.Gen.facts, Cert.ReferenceIdeal.Gen.facts,
    kernel_frame, kernelIdeal_frame, reference_frame, trivial, equal⟩

end Cert.Proof

end
